-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x15360 : Shape := ⟨3, ![96, 1, 15360]⟩
abbrev S7680x2816 : Shape := ⟨2, ![7680, 2816]⟩
abbrev S120x2816 : Shape := ⟨2, ![120, 2816]⟩
abbrev S96x15360 : Shape := ⟨2, ![96, 15360]⟩
abbrev S96x2816 : Shape := ⟨2, ![96, 2816]⟩
abbrev S7680x256 : Shape := ⟨2, ![7680, 256]⟩
abbrev S120x256 : Shape := ⟨2, ![120, 256]⟩
abbrev S96x256 : Shape := ⟨2, ![96, 256]⟩
abbrev S96x1024 : Shape := ⟨2, ![96, 1024]⟩
abbrev S512x256 : Shape := ⟨2, ![512, 256]⟩
abbrev S512x1x256 : Shape := ⟨3, ![512, 1, 256]⟩
abbrev S512x2x256 : Shape := ⟨3, ![512, 2, 256]⟩
abbrev S1024x256 : Shape := ⟨2, ![1024, 256]⟩
abbrev S8x256 : Shape := ⟨2, ![8, 256]⟩
abbrev S8x128x256 : Shape := ⟨3, ![8, 128, 256]⟩
abbrev S8x1x256 : Shape := ⟨3, ![8, 1, 256]⟩

abbrev nBuf : Space → Nat
  | .hbm => 7
  | .vmem => 11
  | .smem => 0
  | _ => 0

abbrev bufTy : (tb : Table) → Fin (tcTables nBuf tb) → BufTy
  | .hbm, ⟨0, _⟩ => ⟨S96x1x15360, .bf16⟩
  | .hbm, ⟨1, _⟩ => ⟨S7680x2816, .i8⟩
  | .hbm, ⟨2, _⟩ => ⟨S120x2816, .bf16⟩
  | .hbm, ⟨3, _⟩ => ⟨S7680x2816, .i8⟩
  | .hbm, ⟨4, _⟩ => ⟨S120x2816, .bf16⟩
  | .hbm, ⟨5, _⟩ => ⟨S96x15360, .bf16⟩
  | .hbm, ⟨6, _⟩ => ⟨S96x2816, .bf16⟩
  | .local _ .vmem, ⟨0, _⟩ => ⟨S96x15360, .bf16⟩
  | .local _ .vmem, ⟨1, _⟩ => ⟨S7680x256, .i8⟩
  | .local _ .vmem, ⟨2, _⟩ => ⟨S7680x256, .i8⟩
  | .local _ .vmem, ⟨3, _⟩ => ⟨S120x256, .bf16⟩
  | .local _ .vmem, ⟨4, _⟩ => ⟨S120x256, .bf16⟩
  | .local _ .vmem, ⟨5, _⟩ => ⟨S7680x256, .i8⟩
  | .local _ .vmem, ⟨6, _⟩ => ⟨S7680x256, .i8⟩
  | .local _ .vmem, ⟨7, _⟩ => ⟨S120x256, .bf16⟩
  | .local _ .vmem, ⟨8, _⟩ => ⟨S120x256, .bf16⟩
  | .local _ .vmem, ⟨9, _⟩ => ⟨S96x256, .bf16⟩
  | .local _ .vmem, ⟨10, _⟩ => ⟨S96x256, .bf16⟩
  | _, _ => ⟨S96x1x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c15_i32 : BitVec 32 := 15#32
  let v1 : BitVec 32 := Scalar.addi c0_i32 c15_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v8 : BitVec 32 := Scalar.muli arg7 c1024_i32
  v8
def k0_off1 (k0_t1 : Fin k0_t1_loop.trips) : Fin 2 → Nat :=
  let c0_2 : Index := 0#32
  let c0_i32 : BitVec 32 := 0#32
  let c1_i32 : BitVec 32 := 1#32
  let arg7 : BitVec 32 := Scf.iv c0_i32 c1_i32 k0_t1
  let c1024_i32 : BitVec 32 := 1024#32
  let v8 : BitVec 32 := Scalar.muli arg7 c1024_i32
  let v9 : BitVec 32 := v8
  let v10 : Index := Scalar.indexCast v9
  ![0, v10.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v13 : BitVec 32 := Scalar.muli arg7 c512_i32
  let v14 : Index := Scalar.indexCast v13
  let c0_3 : Index := 0#32
  ![v14.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32 : BitVec 32 := 8#32
  let v30 : BitVec 32 := Scalar.muli arg7 c8_i32
  let v31 : Index := Scalar.indexCast v30
  let c0_6 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x15360 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7680x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S120x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7680x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S120x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S96x1x15360 : Shape := ⟨3, ![96, 1, 15360]⟩
abbrev S7680x2816 : Shape := ⟨2, ![7680, 2816]⟩
abbrev S120x2816 : Shape := ⟨2, ![120, 2816]⟩
abbrev S96x7680x2 : Shape := ⟨3, ![96, 7680, 2]⟩
abbrev S2x96x7680 : Shape := ⟨3, ![2, 96, 7680]⟩
abbrev S_ : Shape := ⟨0, ![]⟩
abbrev S1x7680x2816 : Shape := ⟨3, ![1, 7680, 2816]⟩
abbrev S2x7680x2816 : Shape := ⟨3, ![2, 7680, 2816]⟩
abbrev S2x120x64x2816 : Shape := ⟨4, ![2, 120, 64, 2816]⟩
abbrev S1x120x1x2816 : Shape := ⟨4, ![1, 120, 1, 2816]⟩
abbrev S96x2816 : Shape := ⟨2, ![96, 2816]⟩

abbrev nBuf : Space → Nat
  | .hbm => 58
  | .vmem => 0
  | .smem => 0
  | _ => 0

abbrev bufTy : (tb : Table) → Fin (tcTables nBuf tb) → BufTy
  | .hbm, ⟨0, _⟩ => ⟨S96x1x15360, .bf16⟩
  | .hbm, ⟨1, _⟩ => ⟨S7680x2816, .i8⟩
  | .hbm, ⟨2, _⟩ => ⟨S120x2816, .bf16⟩
  | .hbm, ⟨3, _⟩ => ⟨S7680x2816, .i8⟩
  | .hbm, ⟨4, _⟩ => ⟨S120x2816, .bf16⟩
  | .hbm, ⟨5, _⟩ => ⟨S96x7680x2, .bf16⟩
  | .hbm, ⟨6, _⟩ => ⟨S2x96x7680, .bf16⟩
  | .hbm, ⟨7, _⟩ => ⟨S7680x2816, .i32⟩
  | .hbm, ⟨8, _⟩ => ⟨S_, .i32⟩
  | .hbm, ⟨9, _⟩ => ⟨S7680x2816, .i32⟩
  | .hbm, ⟨10, _⟩ => ⟨S7680x2816, .i32⟩
  | .hbm, ⟨11, _⟩ => ⟨S_, .i32⟩
  | .hbm, ⟨12, _⟩ => ⟨S7680x2816, .i32⟩
  | .hbm, ⟨13, _⟩ => ⟨S7680x2816, .i32⟩
  | .hbm, ⟨14, _⟩ => ⟨S1x7680x2816, .i32⟩
  | .hbm, ⟨15, _⟩ => ⟨S1x7680x2816, .i32⟩
  | .hbm, ⟨16, _⟩ => ⟨S2x7680x2816, .i32⟩
  | .hbm, ⟨17, _⟩ => ⟨S2x7680x2816, .bf16⟩
  | .hbm, ⟨18, _⟩ => ⟨S_, .bf16⟩
  | .hbm, ⟨19, _⟩ => ⟨S2x7680x2816, .bf16⟩
  | .hbm, ⟨20, _⟩ => ⟨S2x7680x2816, .bf16⟩
  | .hbm, ⟨21, _⟩ => ⟨S2x120x64x2816, .bf16⟩
  | .hbm, ⟨22, _⟩ => ⟨S1x120x1x2816, .bf16⟩
  | .hbm, ⟨23, _⟩ => ⟨S2x120x64x2816, .bf16⟩
  | .hbm, ⟨24, _⟩ => ⟨S2x120x64x2816, .bf16⟩
  | .hbm, ⟨25, _⟩ => ⟨S2x7680x2816, .bf16⟩
  | .hbm, ⟨26, _⟩ => ⟨S96x2816, .f32⟩
  | .hbm, ⟨27, _⟩ => ⟨S7680x2816, .i32⟩
  | .hbm, ⟨28, _⟩ => ⟨S_, .i32⟩
  | .hbm, ⟨29, _⟩ => ⟨S7680x2816, .i32⟩
  | .hbm, ⟨30, _⟩ => ⟨S7680x2816, .i32⟩
  | .hbm, ⟨31, _⟩ => ⟨S_, .i32⟩
  | .hbm, ⟨32, _⟩ => ⟨S7680x2816, .i32⟩
  | .hbm, ⟨33, _⟩ => ⟨S7680x2816, .i32⟩
  | .hbm, ⟨34, _⟩ => ⟨S1x7680x2816, .i32⟩
  | .hbm, ⟨35, _⟩ => ⟨S1x7680x2816, .i32⟩
  | .hbm, ⟨36, _⟩ => ⟨S2x7680x2816, .i32⟩
  | .hbm, ⟨37, _⟩ => ⟨S2x7680x2816, .bf16⟩
  | .hbm, ⟨38, _⟩ => ⟨S_, .bf16⟩
  | .hbm, ⟨39, _⟩ => ⟨S2x7680x2816, .bf16⟩
  | .hbm, ⟨40, _⟩ => ⟨S2x7680x2816, .bf16⟩
  | .hbm, ⟨41, _⟩ => ⟨S2x120x64x2816, .bf16⟩
  | .hbm, ⟨42, _⟩ => ⟨S1x120x1x2816, .bf16⟩
  | .hbm, ⟨43, _⟩ => ⟨S2x120x64x2816, .bf16⟩
  | .hbm, ⟨44, _⟩ => ⟨S2x120x64x2816, .bf16⟩
  | .hbm, ⟨45, _⟩ => ⟨S2x7680x2816, .bf16⟩
  | .hbm, ⟨46, _⟩ => ⟨S96x2816, .f32⟩
  | .hbm, ⟨47, _⟩ => ⟨S96x2816, .f32⟩
  | .hbm, ⟨48, _⟩ => ⟨S96x2816, .f32⟩
  | .hbm, ⟨49, _⟩ => ⟨S_, .f32⟩
  | .hbm, ⟨50, _⟩ => ⟨S96x2816, .f32⟩
  | .hbm, ⟨51, _⟩ => ⟨S96x2816, .f32⟩
  | .hbm, ⟨52, _⟩ => ⟨S_, .f32⟩
  | .hbm, ⟨53, _⟩ => ⟨S96x2816, .f32⟩
  | .hbm, ⟨54, _⟩ => ⟨S96x2816, .f32⟩
  | .hbm, ⟨55, _⟩ => ⟨S96x2816, .f32⟩
  | .hbm, ⟨56, _⟩ => ⟨S96x2816, .f32⟩
  | .hbm, ⟨57, _⟩ => ⟨S96x2816, .bf16⟩
  | _, _ => ⟨S96x1x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Proof.Spec.lean ====
/-
  What the kernel and the reference both compute, written once over the extended reals. Hand-written, untrusted.

  A packed byte at row `r`, column `c` holds two 4-bit fields: field 0 (the low one) is the code of row `2r` of the
  weight matrix, field 1 (the high one) that of row `2r + 1`. A code is an unsigned 4-bit number less 8, and 128
  consecutive rows share one scale, so the bytes of 64 consecutive rows do.
-/
module

public import Idealize.ShloMosaic.PureOps.Ideal
public import Idealize.ShloMosaic.Lib.ValueIdx

@[expose] public section

noncomputable section

namespace Cert.Proof

open Idealize.ShloMosaic Idealize.ShloMosaic.ValueIdx
open scoped BigOperators

/-- The code in field `b` of the byte `p`: the 4-bit number it holds, less 8. -/
def code (p : BitVec 8) (b : Fin 2) : ℤ := ((p.toNat / 16 ^ b.val % 16 : ℕ) : ℤ) - 8

/-- The dequantized weight at row `2r + b`, column `c`: its code times the scale of its group. -/
def weight (P : (⟨2, ![7680, 2816]⟩ : Shape).Idx → BitVec 8) (S : (⟨2, ![120, 2816]⟩ : Shape).Idx → EReal)
    (r : Fin 7680) (b : Fin 2) (c : Fin 2816) : EReal :=
  (((code (P (ix2 r c)) b : ℤ) : ℝ) : EReal) * S (ix2 ⟨r.val / 64, by omega⟩ c)

/-- One projection at token `i`, column `c`: the token's row times the dequantized column, over all 15360 rows,
    taken as 7680 pairs. -/
def proj (X : (⟨3, ![96, 1, 15360]⟩ : Shape).Idx → EReal) (P : (⟨2, ![7680, 2816]⟩ : Shape).Idx → BitVec 8)
    (S : (⟨2, ![120, 2816]⟩ : Shape).Idx → EReal) (i : Fin 96) (c : Fin 2816) : EReal :=
  ∑ r : Fin 7680, ∑ b : Fin 2, X (ix3 i 0 ⟨2 * r.val + b.val, by omega⟩) * weight P S r b c

/-- The gated product: `g · logistic(g) · u`. -/
def gated (g u : EReal) : EReal := g * Ideal.logistic g * u

end Cert.Proof

end
-- ==== Proof.Byte.lean ====
/-
  The two ways the programs take the codes out of a packed byte. Hand-written, untrusted.

  The reference widens the byte to 32 bits, masks or shifts, and subtracts 8 after the conversion to a float. The kernel
  flips the top bit of both fields (exclusive or with 0x88), which turns an unsigned field into the signed field that is
  8 less, and sign-extends by shifts. Both give `code`. Each statement is about one byte, so it is decided over the 256.
-/
module

public import proofs.«01_k».proof.Proof.Spec

@[expose] public section

noncomputable section

namespace Cert.Proof

open Idealize.ShloMosaic

/-- The reference's low field as a 32-bit integer is the code of field 0 plus 8. -/
theorem ref_low : ∀ p : BitVec 8, (IntOp.andi (p.setWidth 32) 15#32).toInt = code p 0 + 8 := by
  unfold code; decide +kernel

/-- The reference's high field as a 32-bit integer is the code of field 1 plus 8. -/
theorem ref_high : ∀ p : BitVec 8, (IntOp.shrsi .host (p.setWidth 32) 4#32).toInt = code p 1 + 8 := by
  unfold code; decide +kernel

/-- The kernel's low field, as a signed 4-bit integer, is the code of field 0. -/
theorem ker_low : ∀ p : BitVec 8,
    ((IntOp.shrsi .vector (IntOp.shli .vector (IntOp.xori p 136#8) 4#8) 4#8).setWidth 4).toInt = code p 0 := by
  unfold code; decide +kernel

/-- The kernel's high field, as a signed 4-bit integer, is the code of field 1. -/
theorem ker_high : ∀ p : BitVec 8,
    ((IntOp.shrsi .vector (IntOp.xori p 136#8) 4#8).setWidth 4).toInt = code p 1 := by
  unfold code; decide +kernel

/-- A code plus 8, less 8, as extended reals, is the code. -/
theorem sub_eight (n : ℤ) : (((n + 8 : ℤ) : ℝ) : EReal) - ((8 : ℝ) : EReal) = (((n : ℤ) : ℝ) : EReal) := by
  rw [← EReal.coe_sub]; congr 1; push_cast; ring

/-- The bf16 constant 8. -/
theorem ofBits_eight : Ideal.ofBits .bf16 0x4100#16 = ((8 : ℝ) : EReal) := by
  simp [Ideal.ofBits, Ideal.ieee, -EReal.coe_mul]; norm_num

/-- The f32 constant 1. -/
theorem ofBits_one : Ideal.ofBits .f32 0x3F800000#32 = 1 := by
  simp [Ideal.ofBits, Ideal.ieee, -EReal.coe_mul]; norm_num

/-- The f32 constant 0. -/
theorem ofBits_zero : Ideal.ofBits .f32 0x00000000#32 = 0 := by simp [Ideal.ofBits, Ideal.ieee]

end Cert.Proof

end
-- ==== Proof.Ref.lean ====
/-
  The reference read at an index: its result at token `i`, column `c` is `gated` of the two projections. Hand-written,
  untrusted. The reference pairs the rows: it lays the activations out as 7680 pairs, brings the pair axis to the front,
  and contracts over the pair axis and the 7680 rows together.
-/
module

public import proofs.«01_k».proof.Proof.Byte
public import proofs.«01_k».proof.Proof.Gen.ReferenceIdeal
public import proofs.«01_k».proof.Proof.Gen.ReferenceIdeal.Read
public import Idealize.ShloMosaic.Lib.Pipeline.Value
public import Idealize.ShloMosaic.Lib.MatmulPlain

@[expose] public section

noncomputable section

namespace Cert.Proof.Ref

open Idealize.ShloMosaic Idealize.ShloMosaic.ValueIdx
open Cert.ReferenceIdeal Cert.ReferenceIdeal.Gen Cert.ReferenceIdeal.Read
open scoped BigOperators

variable (x0 : S96x1x15360.Idx → EReal) (x1 : S7680x2816.Idx → BitVec 8) (x2 : S120x2816.Idx → EReal)
variable (x3 : S7680x2816.Idx → BitVec 8) (x4 : S120x2816.Idx → EReal)

/-- The activations, paired and transposed, at pair field `b`, token `i`, row `r`. -/
theorem acts (b : Fin 2) (i : Fin 96) (r : Fin 7680) :
    val_main_v1 (F := Ideal) x0 (ix3 b i r) = x0 (ix3 i 0 ⟨2 * r.val + b.val, by omega⟩) := by
  rw [val_main_v1_apply, val_main_v0_apply]
  refine congrArg x0 (funext fun a => Fin.ext ?_)
  match a with
  | ⟨0, _⟩ => show ((i.val * 7680 + r.val) * 2 + b.val) / 15360 = i.val; omega
  | ⟨1, _⟩ => rfl
  | ⟨2, _⟩ => show ((i.val * 7680 + r.val) * 2 + b.val) % 15360 = 2 * r.val + b.val; omega

/-- The stacked fields, as an integer, at field `b`, row `r`, column `c`: the code plus 8. -/
theorem fields (b : Fin 2) (r : Fin 7680) (c : Fin 2816) :
    BitVec.toInt (val_main_v9 (F := Ideal) x1 (ix3 b r c)) = code (x1 (ix2 r c)) b + 8 := by
  unfold val_main_v9
  have hix : idx_main_v7 (ix3 (0 : Fin 1) r c) = ix2 r c := by
    funext a; match a with | ⟨0, _⟩ => rfl | ⟨1, _⟩ => rfl
  revert b
  refine Fin.forall_fin_two.2 ⟨?_, ?_⟩
  · refine (congrArg BitVec.toInt (concatenate_pair_apply_left (s₁ := S1x7680x2816) (s₂ := S1x7680x2816)
      (t := S2x7680x2816) 0 _ _ _ (ix3 (0 : Fin 2) r c) rfl (ix3 (0 : Fin 1) r c)
      (fun b => match b with | ⟨0, _⟩ => rfl | ⟨1, _⟩ => rfl | ⟨2, _⟩ => rfl))).trans ?_
    rw [val_main_v7_apply, hix, val_main_v4_apply, val_main_v3_apply]
    exact ref_low _
  · refine (congrArg BitVec.toInt (concatenate_pair_apply_right (s₁ := S1x7680x2816) (s₂ := S1x7680x2816)
      (t := S2x7680x2816) 0 _ _ _ (ix3 (1 : Fin 2) r c) rfl rfl (ix3 (0 : Fin 1) r c)
      (fun b hb => match b with | ⟨0, _⟩ => absurd rfl hb | ⟨1, _⟩ => rfl | ⟨2, _⟩ => rfl) rfl)).trans ?_
    rw [val_main_v8_apply, show idx_main_v8 (ix3 (0 : Fin 1) r c) = ix2 r c from hix, val_main_v6_apply,
      val_main_v5_apply]
    exact ref_high _

/-- The dequantized weights at field `b`, row `r`, column `c`. -/
theorem weights (b : Fin 2) (r : Fin 7680) (c : Fin 2816) :
    val_main_v17 (F := Ideal) x1 x2 (ix3 b r c) = weight x1 x2 r b c := by
  have hi : idx_main_v13 (idx_main_v17 (ix3 b r c)) = ix3 b r c := by
    have hb := b.isLt; have hr := r.isLt; have hc := c.isLt
    funext a; apply Fin.ext
    match a with
    | ⟨0, _⟩ =>
      show ((((((b.val * 7680 + r.val) * 2816 + c.val) / 21626880) * 120 + ((b.val * 7680 + r.val) * 2816 + c.val) / 180224 % 120) * 64 + ((b.val * 7680 + r.val) * 2816 + c.val) / 2816 % 64) * 2816 + ((b.val * 7680 + r.val) * 2816 + c.val) % 2816) / 21626880 = b.val
      omega
    | ⟨1, _⟩ =>
      show ((((((b.val * 7680 + r.val) * 2816 + c.val) / 21626880) * 120 + ((b.val * 7680 + r.val) * 2816 + c.val) / 180224 % 120) * 64 + ((b.val * 7680 + r.val) * 2816 + c.val) / 2816 % 64) * 2816 + ((b.val * 7680 + r.val) * 2816 + c.val) % 2816) / 2816 % 7680 = r.val
      omega
    | ⟨2, _⟩ =>
      show ((((((b.val * 7680 + r.val) * 2816 + c.val) / 21626880) * 120 + ((b.val * 7680 + r.val) * 2816 + c.val) / 180224 % 120) * 64 + ((b.val * 7680 + r.val) * 2816 + c.val) / 2816 % 64) * 2816 + ((b.val * 7680 + r.val) * 2816 + c.val) % 2816) % 2816 = c.val
      omega
  have hs : idx_main_v14 (idx_main_v15 (idx_main_v17 (ix3 b r c))) = ix2 ⟨r.val / 64, by omega⟩ c := by
    have hb := b.isLt; have hr := r.isLt; have hc := c.isLt
    funext a; apply Fin.ext
    match a with
    | ⟨0, _⟩ => show ((b.val * 7680 + r.val) * 2816 + c.val) / 180224 % 120 = r.val / 64; omega
    | ⟨1, _⟩ => show ((b.val * 7680 + r.val) * 2816 + c.val) % 2816 = c.val; omega
  rw [val_main_v17_apply, val_main_v16_apply, val_main_v13_apply, hi, val_main_v15_apply, val_main_v14_apply, hs,
    val_main_v12_apply, val_main_v10_apply, val_main_v11_apply]
  show ((((BitVec.toInt (val_main_v9 (F := Ideal) x1 (ix3 b r c)) : ℤ) : ℝ) : EReal) - Ideal.ofBits .bf16 0x4100#16)
    * x2 (ix2 ⟨r.val / 64, by omega⟩ c) = _
  rw [fields, ofBits_eight, sub_eight]
  rfl

/-- One projection of the reference at token `i`, column `c`. -/
theorem projection (i : Fin 96) (c : Fin 2816) :
    val_main_v18 (F := Ideal) x0 x1 x2 (ix2 i c) = proj x0 x1 x2 i c := by
  unfold val_main_v18
  let D := dot_S2x96x7680_S2x7680x2816_S96x2816_02_01_1_2_n_n
  have hr : D.contr.rank = 2 := rfl
  have c0 : D.contr.size ⟨0, by rw [hr]; omega⟩ = 2 := rfl
  have c1 : D.contr.size ⟨1, by rw [hr]; omega⟩ = 7680 := rfl
  refine Eq.trans (Ideal.dotGeneral_apply D _ _ (val_main_v1 (F := Ideal) x0) (val_main_v17 (F := Ideal) x1 x2) (ix2 i c)) ?_
  rw [← Equiv.sum_comp (contrEquiv2 D 2 7680 hr c0 c1).symm, Fintype.sum_prod_type, Finset.sum_comm]
  unfold proj
  refine Finset.sum_congr rfl fun r _ => Finset.sum_congr rfl fun b _ => ?_
  have h0 := contrEquiv2_symm_val0 D 2 7680 hr c0 c1 (b, r)
  have h1 := contrEquiv2_symm_val1 D 2 7680 hr c0 c1 (b, r)
  have el : D.lhsIdx (ix2 i c) ((contrEquiv2 D 2 7680 hr c0 c1).symm (b, r)) = ix3 b i r := by
    funext a; apply Fin.ext
    match a with
    | ⟨0, _⟩ => exact h0
    | ⟨1, _⟩ => rfl
    | ⟨2, _⟩ => exact h1
  have er : D.rhsIdx (ix2 i c) ((contrEquiv2 D 2 7680 hr c0 c1).symm (b, r)) = ix3 b r c := by
    funext a; apply Fin.ext
    match a with
    | ⟨0, _⟩ => exact h0
    | ⟨1, _⟩ => exact h1
    | ⟨2, _⟩ => rfl
  rw [el, er, acts, weights]

/-- The up projection is the same operations on the other two arguments. -/
theorem up_eq : val_main_v35 (F := Ideal) x0 x3 x4 = val_main_v18 (F := Ideal) x0 x3 x4 := rfl

/-- The reference's result at token `i`, column `c`. -/
theorem result (i : Fin 96) (c : Fin 2816) :
    val_main_v38 (F := Ideal) x0 x1 x2 x3 x4 (ix2 i c) = gated (proj x0 x1 x2 i c) (proj x0 x3 x4 i c) := by
  rw [val_main_v38_apply, val_main_v37_apply, val_main_v36_apply, val_main_call0_v5_apply, val_main_call0_v4_apply,
    val_main_call0_v3_apply, val_main_call0_v2_apply, val_main_call0_v1_apply, val_main_call0_v0_apply, up_eq,
    projection, projection]
  generalize proj x0 x1 x2 i c = g
  generalize proj x0 x3 x4 i c = u
  show g * Ideal.div (Ideal.ofBits .f32 0x3F800000#32) (Ideal.ofBits .f32 0x3F800000#32 + Ideal.exp (-g)) * u = _
  rw [ofBits_one]
  rfl

end Cert.Proof.Ref

end
-- ==== Proof.Tile.lean ====
/-
  One trip's arithmetic, read at an index. Hand-written, untrusted. A trip takes 1024 of the activations' columns, the 512
  rows of packed bytes that hold their 1024 weights, and the 8 rows of scales for them; it adds the product to the
  accumulator.
-/
module

public import proofs.«01_k».proof.Proof.Byte
public import proofs.«01_k».proof.Proof.Gen.KernelIdeal.Skeleton
public import Idealize.ShloMosaic.Lib.Pipeline.Value
public import Idealize.ShloMosaic.Lib.MatmulPlain

@[expose] public section

noncomputable section

namespace Cert.Proof.Tile

open Idealize.ShloMosaic Idealize.ShloMosaic.ValueIdx
open Cert.KernelIdeal Cert.KernelIdeal.Gen
open scoped BigOperators

variable (xb : S96x1024.Idx → EReal) (p : S512x256.Idx → BitVec 8) (s : S8x256.Idx → EReal)

/-- The unpacked 4-bit integers of 512 rows of bytes, as the body computes them: the two fields of every byte,
interleaved along the rows. -/
def ints : IVec S1024x256 4 :=
  trunci 4 (shapeCast S1024x256 (concatenate S512x2x256 1
    [⟨S512x1x256, shapeCast S512x1x256 (shrsi (shli (xori p (broadcast S512x256 136#8)) (broadcast S512x256 4#8))
        (broadcast S512x256 4#8)) shapeCasts_S512x256_S512x1x256⟩,
     ⟨S512x1x256, shapeCast S512x1x256 (shrsi (xori p (broadcast S512x256 136#8)) (broadcast S512x256 4#8))
        shapeCasts_S512x256_S512x1x256⟩] concatenates_S512x1x256_S512x1x256_S512x2x256_d1)
    shapeCasts_S512x2x256_S1024x256) natLt_4_8

/-- The dequantized weights of one trip, as the body computes them. -/
def weights : FVec Ideal S1024x256 .bf16 :=
  shapeCast S1024x256 (mulf (shapeCast S8x128x256 (sitofp (F := Ideal) .bf16 (ints p)) shapeCasts_S1024x256_S8x128x256)
    (broadcastTo S8x128x256 (shapeCast S8x1x256 s shapeCasts_S8x256_S8x1x256) broadcasts_S8x1x256_S8x128x256))
    shapeCasts_S8x128x256_S1024x256

/-- The gate payload is the accumulator plus the product with `weights`. -/
theorem pay5_eq (acc : FVec Ideal S96x256 .f32) :
    k0_pay5 (F := Ideal) acc xb p s
      = addf acc (matmul (F := Ideal) (φ₁ := .bf16) (φ₂ := .bf16) (DotDims.plain 96 1024 256) none
          (shapeCast S96x1024 (α := EReal) xb shapeCasts_S96x1024_S96x1024) (weights p s) (constant S96x256 .f32 0x00000000#32)) := rfl

/-- The up payload is the gate payload at the other operands. -/
theorem pay2_eq (acc : FVec Ideal S96x256 .f32) :
    k0_pay2 (F := Ideal) acc (k0_pay4 xb) (k0_pay6 (F := Ideal) p) (k0_pay7 (F := Ideal) p) k0_pay8 s
      = k0_pay5 (F := Ideal) acc xb p s := rfl

/-- Row `kk` of the unpacked integers is field `kk % 2` of byte row `kk / 2`. -/
theorem ints_apply (kk : Fin 1024) (j : Fin 256) :
    BitVec.toInt (ints p (ix2 kk j))
      = code (p (ix2 ⟨kk.val / 2, by omega⟩ j)) ⟨kk.val % 2, Nat.mod_lt _ (by decide)⟩ := by
  have hk := kk.isLt
  -- a byte row seen as a 512 × 1 × 256 array
  have hu : ∀ (v : S512x256.Idx → BitVec 8) (r : Fin 512),
      shapeCast S512x1x256 v shapeCasts_S512x256_S512x1x256 (ix3 r (0 : Fin 1) j) = v (ix2 r j) := fun v r =>
    shapeCast_apply v _ _ _ (by
      rw [Shape.rowMajor_val_two, Shape.rowMajor_val_three]
      show r.val * 256 + j.val = (r.val * 1 + 0) * 256 + j.val
      omega)
  unfold ints
  show BitVec.toInt (BitVec.setWidth 4 (shapeCast S1024x256 _ shapeCasts_S512x2x256_S1024x256 (ix2 kk j))) = _
  rcases Nat.mod_two_eq_zero_or_one kk.val with hb | hb
  · rw [shapeCast_apply _ _ (ix2 kk j) (ix3 (⟨kk.val / 2, by omega⟩ : Fin 512) (0 : Fin 2) j) (by
      rw [Shape.rowMajor_val_two, Shape.rowMajor_val_three]
      show (kk.val / 2 * 2 + 0) * 256 + j.val = kk.val * 256 + j.val
      omega)]
    rw [concatenate_pair_apply_left (s₁ := S512x1x256) (s₂ := S512x1x256) (t := S512x2x256) 1 _ _ _ _ rfl
      (ix3 (⟨kk.val / 2, by omega⟩ : Fin 512) (0 : Fin 1) j)
      (fun b => match b with | ⟨0, _⟩ => rfl | ⟨1, _⟩ => rfl | ⟨2, _⟩ => rfl), hu]
    rw [show (⟨kk.val % 2, Nat.mod_lt _ (by decide)⟩ : Fin 2) = 0 from Fin.ext hb]
    exact ker_low _
  · rw [shapeCast_apply _ _ (ix2 kk j) (ix3 (⟨kk.val / 2, by omega⟩ : Fin 512) (1 : Fin 2) j) (by
      rw [Shape.rowMajor_val_two, Shape.rowMajor_val_three]
      show (kk.val / 2 * 2 + 1) * 256 + j.val = kk.val * 256 + j.val
      omega)]
    rw [concatenate_pair_apply_right (s₁ := S512x1x256) (s₂ := S512x1x256) (t := S512x2x256) 1 _ _ _ _ rfl rfl
      (ix3 (⟨kk.val / 2, by omega⟩ : Fin 512) (0 : Fin 1) j)
      (fun b hb => match b with | ⟨0, _⟩ => rfl | ⟨1, _⟩ => absurd rfl hb | ⟨2, _⟩ => rfl) rfl, hu]
    rw [show (⟨kk.val % 2, Nat.mod_lt _ (by decide)⟩ : Fin 2) = 1 from Fin.ext hb]
    exact ker_high _

/-- Row `kk` of the weights: its code times the scale of its group of 128 rows. -/
theorem weights_apply (kk : Fin 1024) (j : Fin 256) :
    weights p s (ix2 kk j)
      = (((code (p (ix2 ⟨kk.val / 2, by omega⟩ j)) ⟨kk.val % 2, Nat.mod_lt _ (by decide)⟩ : ℤ) : ℝ) : EReal)
        * s (ix2 ⟨kk.val / 128, by omega⟩ j) := by
  have hk := kk.isLt
  unfold weights
  rw [shapeCast_apply _ _ (ix2 kk j) (ix3 (⟨kk.val / 128, by omega⟩ : Fin 8) (⟨kk.val % 128, by omega⟩ : Fin 128) j) (by
    rw [Shape.rowMajor_val_two, Shape.rowMajor_val_three]
    show (kk.val / 128 * 128 + kk.val % 128) * 256 + j.val = kk.val * 256 + j.val
    omega)]
  show shapeCast S8x128x256 (sitofp (F := Ideal) .bf16 (ints p)) shapeCasts_S1024x256_S8x128x256 _
    * shapeCast S8x1x256 s shapeCasts_S8x256_S8x1x256 _ = _
  rw [shapeCast_apply _ _ (ix3 (⟨kk.val / 128, by omega⟩ : Fin 8) (⟨kk.val % 128, by omega⟩ : Fin 128) j) (ix2 kk j) (by
    rw [Shape.rowMajor_val_two, Shape.rowMajor_val_three]
    show kk.val * 256 + j.val = (kk.val / 128 * 128 + kk.val % 128) * 256 + j.val
    omega)]
  rw [shapeCast_apply s shapeCasts_S8x256_S8x1x256 _ (ix2 (⟨kk.val / 128, by omega⟩ : Fin 8) j) (by
    rw [Shape.rowMajor_val_two, Shape.rowMajor_val_three]
    show kk.val / 128 * 256 + j.val = (kk.val / 128 * 1 + 0) * 256 + j.val
    omega)]
  rw [← ints_apply]
  rfl

/-- The gate payload at `(i, j)`: the accumulator plus the sum over the trip's 1024 rows. -/
theorem pay5_apply (acc : FVec Ideal S96x256 .f32) (i : Fin 96) (j : Fin 256) :
    k0_pay5 (F := Ideal) acc xb p s (ix2 i j)
      = acc (ix2 i j) + ∑ kk : Fin 1024, xb (ix2 i kk)
          * ((((code (p (ix2 ⟨kk.val / 2, by omega⟩ j)) ⟨kk.val % 2, Nat.mod_lt _ (by decide)⟩ : ℤ) : ℝ) : EReal)
            * s (ix2 ⟨kk.val / 128, by omega⟩ j)) := by
  rw [pay5_eq]
  show acc (ix2 i j) + FloatOps.matmul (DotDims.plain 96 1024 256) none _ (weights p s) _ (ix2 i j) = _
  rw [shapeCast_self, Ideal.matmul_plain_apply]
  refine congrArg (acc (ix2 i j) + ·) ?_
  show Ideal.ofBits .f32 0x00000000#32 + _ = _
  rw [ofBits_zero, zero_add]
  exact Finset.sum_congr rfl fun kk _ => by rw [weights_apply]

/-- The two accumulators start at zero. -/
theorem pay1_apply (ij : S96x256.Idx) : k0_pay1 (F := Ideal) ij = 0 := ofBits_zero

/-- What the body stores: `gated` of the two accumulators. -/
theorem pay3_apply (g u : FVec Ideal S96x256 .f32) (ij : S96x256.Idx) :
    k0_pay3 (F := Ideal) g u ij = gated (g ij) (u ij) := rfl

end Cert.Proof.Tile

end
-- ==== Proof.Trip.lean ====
/-
  The body's loop, trip by trip. Hand-written, untrusted. Trip `k` loads columns `1024 k …` of the activations, rows
  `512 k …` of the packed weights and rows `8 k …` of the scales from the point's staged blocks, and adds the tile product
  to each of the two accumulators it carries.
-/
module

public import proofs.«01_k».proof.Proof.Tile
public import proofs.«01_k».proof.Proof.Gen.KernelIdeal.Frame

@[expose] public section

set_option maxRecDepth 16384

noncomputable section

namespace Cert.Proof.Trip

open Idealize.ShloMosaic Idealize.ShloMosaic.ValueIdx Idealize.ShloMosaic.TcCoe
open Cert.KernelIdeal Cert.KernelIdeal.Gen
open scoped BigOperators

variable (c : Dev nD) (g : grid0.Coords)
  (a1 : Memref sig .tc .vmem S96x15360 .bf16) (h1 : a1.IsWhole) (a2 : Memref sig .tc .vmem S7680x256 .i8) (h2 : a2.IsWhole)
  (a3 : Memref sig .tc .vmem S120x256 .bf16) (h3 : a3.IsWhole) (a4 : Memref sig .tc .vmem S7680x256 .i8) (h4 : a4.IsWhole)
  (a5 : Memref sig .tc .vmem S120x256 .bf16) (h5 : a5.IsWhole) (a6 : Memref sig .tc .vmem S96x256 .bf16) (h6 : a6.IsWhole)
  (x : Vec Ideal S96x15360 .bf16) (p : Vec Ideal S7680x256 .i8) (s : Vec Ideal S120x256 .bf16)
  (p' : Vec Ideal S7680x256 .i8) (s' : Vec Ideal S120x256 .bf16)

/-- The columns of the activations trip `k` loads. -/
def xAt (k : Fin k0_t1_loop.trips) : Vec Ideal S96x1024 .bf16 :=
  View.ld x (Rect.unit (s := S96x15360) (k0_off1 k) S96x1024.size (k0_off1_inb k))

/-- The rows of a packed weight trip `k` loads. -/
def pAt (k : Fin k0_t1_loop.trips) : Vec Ideal S512x256 .i8 :=
  View.ld p (Rect.unit (s := S7680x256) (k0_off2 k) S512x256.size (k0_off2_inb k))

/-- The rows of the scales trip `k` loads. -/
def sAt (k : Fin k0_t1_loop.trips) : Vec Ideal S8x256 .bf16 :=
  View.ld s (Rect.unit (s := S120x256) (k0_off3 k) S8x256.size (k0_off3_inb k))

/-- The loop runs 15 trips. -/
theorem trips_eq : k0_t1_loop.trips = 15 := by decide +kernel

/-- A trip's number is below 15. -/
theorem lt15 (k : Fin k0_t1_loop.trips) : k.val < 15 := k.isLt.trans_le trips_eq.le

/-- The activations trip `k` loads start at column `1024 k`. -/
theorem xAt_apply (k : Fin k0_t1_loop.trips) (i : Fin 96) (kk : Fin 1024) :
    xAt x k (ix2 i kk) = x (ix2 i ⟨1024 * k.val + kk.val, by have := lt15 k; omega⟩) := by
  unfold xAt View.ld
  refine congrArg x (funext fun a => Fin.ext ?_)
  show k0_off1 k a + 1 * (ix2 i kk a).val = _
  rw [k0_off1_eq]
  match a with
  | ⟨0, _⟩ => show 0 + 1 * i.val = i.val; omega
  | ⟨1, _⟩ => show 1024 * k.val + 1 * kk.val = 1024 * k.val + kk.val; omega

/-- The packed rows trip `k` loads start at row `512 k`. -/
theorem pAt_apply (k : Fin k0_t1_loop.trips) (r : Fin 512) (j : Fin 256) :
    pAt p k (ix2 r j) = p (ix2 ⟨512 * k.val + r.val, by have := lt15 k; omega⟩ j) := by
  unfold pAt View.ld
  refine congrArg p (funext fun a => Fin.ext ?_)
  show k0_off2 k a + 1 * (ix2 r j a).val = _
  rw [k0_off2_eq]
  match a with
  | ⟨0, _⟩ => show 512 * k.val + 1 * r.val = 512 * k.val + r.val; omega
  | ⟨1, _⟩ => show 0 + 1 * j.val = j.val; omega

/-- The scale rows trip `k` loads start at row `8 k`. -/
theorem sAt_apply (k : Fin k0_t1_loop.trips) (r : Fin 8) (j : Fin 256) :
    sAt s k (ix2 r j) = s (ix2 ⟨8 * k.val + r.val, by have := lt15 k; omega⟩ j) := by
  unfold sAt View.ld
  refine congrArg s (funext fun a => Fin.ext ?_)
  show k0_off3 k a + 1 * (ix2 r j a).val = _
  rw [k0_off3_eq]
  match a with
  | ⟨0, _⟩ => show 8 * k.val + 1 * r.val = 8 * k.val + r.val; omega
  | ⟨1, _⟩ => show 0 + 1 * j.val = j.val; omega

/-- The loop's state before trip `n`, at the point's staged blocks. -/
abbrev state (n : ℕ) : FVec Ideal S96x256 .f32 × FVec Ideal S96x256 .f32 :=
  st_k0_t1 (F := Ideal) Variants.none c none g a1 h1 a2 h2 a3 h3 a4 h4 a5 h5 a6 h6 (h1.unread x) (h2.unread p) (h3.unread s)
    (h4.unread p') (h5.unread s') (k0_pay1, k0_pay1) n

/-- One trip: each accumulator takes the gate payload of what the trip loads for it. -/
theorem trip (k : Fin k0_t1_loop.trips) (acc : FVec Ideal S96x256 .f32 × FVec Ideal S96x256 .f32) :
    tripR_k0_t1 (F := Ideal) Variants.none c none g a1 h1 a2 h2 a3 h3 a4 h4 a5 h5 a6 h6 (h1.unread x) (h2.unread p)
      (h3.unread s) (h4.unread p') (h5.unread s') k acc
    = (k0_pay5 acc.1 (xAt x k) (pAt p k) (sAt s k), k0_pay5 acc.2 (xAt x k) (pAt p' k) (sAt s' k)) := by
  unfold tripR_k0_t1 trip_k0_t1
  dsimp only
  sl_unfold_words
  simp only [View.readAt_eq_ld, h1.read_unread, h2.read_unread, h3.read_unread, h4.read_unread, h5.read_unread]
  exact congrArg₂ Prod.mk rfl (Tile.pay2_eq _ _ _ _)

/-- The block the body leaves: `gated` of the two accumulators after the last trip. -/
theorem out (i : Fin 96) (j : Fin 256) :
    out0_A_5 (F := Ideal) c g a1 h1 a2 h2 a3 h3 a4 h4 a5 h5 a6 h6 x p s p' s' (ix2 i j)
      = gated ((state c g a1 h1 a2 h2 a3 h3 a4 h4 a5 h5 a6 h6 x p s p' s' 15).1 (ix2 i j))
          ((state c g a1 h1 a2 h2 a3 h3 a4 h4 a5 h5 a6 h6 x p s p' s' 15).2 (ix2 i j)) := by
  have hz : (![0, 0] : Fin S96x256.rank → Nat) = fun _ => 0 := funext fun a => by fin_cases a <;> rfl
  unfold out0_A_5
  rw [View.read_writes_eq_canon _ _ _ (cover0_A_5 c g a1 h1 a2 h2 a3 h3 a4 h4 a5 h5 a6 h6 x p s p' s')]
  unfold kernelRun0_A
  dsimp only
  sl_unfold_words
  rw [View.canon_unit_zero hz, Tile.pay3_apply, show Scf.trips (0#32) (Scalar.addi 0#32 15#32) 1#32 = 15 from trips_eq]

end Cert.Proof.Trip

end
-- ==== Proof.Fold.lean ====
/-
  The loop's accumulators as sums. Hand-written, untrusted. After `n` trips an accumulator holds the sum of the first
  `1024 n` rows' products; after all 15 trips it is the sum over the 15360 rows, which is the sum over the 7680 byte rows
  and the two fields of each.
-/
module

public import proofs.«01_k».proof.Proof.Trip

@[expose] public section

set_option maxRecDepth 16384

noncomputable section

namespace Cert.Proof.Fold

open Idealize.ShloMosaic Idealize.ShloMosaic.ValueIdx Idealize.ShloMosaic.TcCoe
open Cert.KernelIdeal Cert.KernelIdeal.Gen Cert.Proof.Trip
open scoped BigOperators

/-- A sum over `m * n` indices, taken as `m` runs of `n`. -/
theorem sum_runs {m n N : ℕ} (h : m * n = N) (f : Fin N → EReal) (hlt : ∀ (a : Fin m) (b : Fin n), n * a.val + b.val < N) :
    ∑ a : Fin m, ∑ b : Fin n, f ⟨n * a.val + b.val, hlt a b⟩ = ∑ R, f R := by
  subst h
  rw [← finProdFinEquiv.sum_comp, Fintype.sum_prod_type]
  exact Finset.sum_congr rfl fun a _ => Finset.sum_congr rfl fun b _ => congrArg f (Fin.ext (Nat.add_comm _ _))

variable (x : Vec Ideal S96x15360 .bf16) (p : Vec Ideal S7680x256 .i8) (s : Vec Ideal S120x256 .bf16)
  (p' : Vec Ideal S7680x256 .i8) (s' : Vec Ideal S120x256 .bf16)

/-- Row `R`'s product at token `i`, column `j` of the block. -/
def term (i : Fin 96) (j : Fin 256) (R : Fin 15360) : EReal :=
  x (ix2 i R) * ((((code (p (ix2 ⟨R.val / 2, by omega⟩ j)) ⟨R.val % 2, Nat.mod_lt _ (by decide)⟩ : ℤ) : ℝ) : EReal)
    * s (ix2 ⟨R.val / 128, by omega⟩ j))

/-- The sum of the first `n` trips' products. -/
def part (i : Fin 96) (j : Fin 256) (n : ℕ) (hn : n ≤ 15) : EReal :=
  ∑ t : Fin n, ∑ kk : Fin 1024, term x p s i j ⟨1024 * t.val + kk.val, by omega⟩

/-- One more trip adds that trip's products. -/
theorem part_succ (i : Fin 96) (j : Fin 256) (n : ℕ) (hn : n + 1 ≤ 15) :
    part x p s i j (n + 1) hn = part x p s i j n (by omega)
      + ∑ kk : Fin 1024, term x p s i j ⟨1024 * n + kk.val, by omega⟩ :=
  Fin.sum_univ_castSucc fun t : Fin (n + 1) => ∑ kk : Fin 1024, term x p s i j ⟨1024 * t.val + kk.val, by omega⟩

/-- A trip adds its 1024 rows' products to the accumulator. -/
theorem pay5_at (k : Fin k0_t1_loop.trips) (acc : FVec Ideal S96x256 .f32) (i : Fin 96) (j : Fin 256) :
    k0_pay5 (F := Ideal) acc (xAt x k) (pAt p k) (sAt s k) (ix2 i j)
      = acc (ix2 i j) + ∑ kk : Fin 1024, term x p s i j ⟨1024 * k.val + kk.val, by have := lt15 k; omega⟩ := by
  rw [Tile.pay5_apply]
  refine congrArg (acc (ix2 i j) + ·) (Finset.sum_congr rfl fun kk _ => ?_)
  have hk := lt15 k
  rw [xAt_apply, pAt_apply, sAt_apply]
  unfold term
  have e1 : (1024 * k.val + kk.val) / 2 = 512 * k.val + kk.val / 2 := by omega
  have e2 : (1024 * k.val + kk.val) % 2 = kk.val % 2 := by omega
  have e3 : (1024 * k.val + kk.val) / 128 = 8 * k.val + kk.val / 128 := by omega
  simp only [e1, e2, e3]

/-- The two accumulators before trip `n`. -/
theorem state_apply (c : Dev nD) (g : grid0.Coords)
    (a1 : Memref sig .tc .vmem S96x15360 .bf16) (h1 : a1.IsWhole) (a2 : Memref sig .tc .vmem S7680x256 .i8) (h2 : a2.IsWhole)
    (a3 : Memref sig .tc .vmem S120x256 .bf16) (h3 : a3.IsWhole) (a4 : Memref sig .tc .vmem S7680x256 .i8) (h4 : a4.IsWhole)
    (a5 : Memref sig .tc .vmem S120x256 .bf16) (h5 : a5.IsWhole) (a6 : Memref sig .tc .vmem S96x256 .bf16) (h6 : a6.IsWhole)
    (i : Fin 96) (j : Fin 256) : ∀ (n : ℕ) (hn : n ≤ 15),
    (state c g a1 h1 a2 h2 a3 h3 a4 h4 a5 h5 a6 h6 x p s p' s' n).1 (ix2 i j) = part x p s i j n hn
    ∧ (state c g a1 h1 a2 h2 a3 h3 a4 h4 a5 h5 a6 h6 x p s p' s' n).2 (ix2 i j) = part x p' s' i j n hn
  | 0, _ => ⟨Tile.pay1_apply (ix2 i j), Tile.pay1_apply (ix2 i j)⟩
  | n + 1, hn => by
    have ih := state_apply c g a1 h1 a2 h2 a3 h3 a4 h4 a5 h5 a6 h6 i j n (by omega)
    have hk : n < k0_t1_loop.trips := by rw [trips_eq]; omega
    unfold state
    rw [st_k0_t1_succ Variants.none c none g a1 h1 a2 h2 a3 h3 a4 h4 a5 h5 a6 h6 _ _ _ _ _ _ ⟨n, hk⟩, trip]
    refine ⟨?_, ?_⟩
    · refine (pay5_at x p s ⟨n, hk⟩ _ i j).trans ?_
      rw [ih.1, part_succ]
    · refine (pay5_at x p' s' ⟨n, hk⟩ _ i j).trans ?_
      rw [ih.2, part_succ]

/-- After all 15 trips: the sum over the byte rows and their two fields. -/
theorem part_all (i : Fin 96) (j : Fin 256) :
    part x p s i j 15 le_rfl
      = ∑ r : Fin 7680, ∑ b : Fin 2, x (ix2 i ⟨2 * r.val + b.val, by omega⟩)
          * ((((code (p (ix2 r j)) b : ℤ) : ℝ) : EReal) * s (ix2 ⟨r.val / 64, by omega⟩ j)) := by
  unfold part
  rw [sum_runs (m := 15) (n := 1024) rfl (term x p s i j), ← sum_runs (m := 7680) (n := 2) rfl (term x p s i j)
    (fun a b => by omega)]
  refine Finset.sum_congr rfl fun r _ => Finset.sum_congr rfl fun b _ => ?_
  unfold term
  have e1 : (2 * r.val + b.val) / 2 = r.val := by omega
  have e2 : (2 * r.val + b.val) % 2 = b.val := by omega
  have e3 : (2 * r.val + b.val) / 128 = r.val / 64 := by omega
  simp only [e1, e2, e3]

end Cert.Proof.Fold

end
-- ==== Proof.Kernel.lean ====
/-
  The kernel's result array. Hand-written, untrusted. Grid point `t` writes columns `256 t …`; its staged blocks are the
  whole activations and the same columns of the four other arguments.
-/
module

public import proofs.«01_k».proof.Proof.Fold
public import proofs.«01_k».proof.Proof.Gen.KernelIdeal.Value
public import Idealize.ShloMosaic.Lib.Claim

@[expose] public section

set_option maxRecDepth 16384

noncomputable section

namespace Cert.Proof.Kernel

open Idealize.ShloMosaic Idealize.ShloMosaic.ValueIdx Idealize.ShloMosaic.TcCoe
open Idealize.ShloMosaic.Pipeline (Dat Window)
open Cert.KernelIdeal Cert.KernelIdeal.Gen
open scoped BigOperators

variable (m : (ℓ : Loc nD τ sig) → Buf (Elt Ideal) ℓ) (c : Dev nD)

/-- The point's index is below 11. -/
theorem lt11 (t : Fin cfg0.N) : t.val < 11 := t.isLt.trans_le (le_of_eq N_0)

/-- The activations' block index is always zero. -/
theorem index0 (t : Fin cfg0.N) (a : Fin 2) : win0_0.index t a = 0 :=
  (by decide +kernel : ∀ (t : Fin grid0.N) (a : Fin 2), win0_0.index t a = 0) t a

/-- The gate weights' block index at point `t` is `(0, t)`. -/
theorem index1 (t : Fin cfg0.N) (a : Fin 2) : win0_1.index t a = (![0, t.val] : Fin 2 → ℕ) a :=
  (by decide +kernel : ∀ (t : Fin grid0.N) (a : Fin 2), win0_1.index t a = (![0, t.val] : Fin 2 → ℕ) a) t a

/-- So is the gate scales'. -/
theorem index2 (t : Fin cfg0.N) (a : Fin 2) : win0_2.index t a = (![0, t.val] : Fin 2 → ℕ) a := index1 t a
/-- So is the up weights'. -/
theorem index3 (t : Fin cfg0.N) (a : Fin 2) : win0_3.index t a = (![0, t.val] : Fin 2 → ℕ) a := index1 t a
/-- So is the up scales'. -/
theorem index4 (t : Fin cfg0.N) (a : Fin 2) : win0_4.index t a = (![0, t.val] : Fin 2 → ℕ) a := index1 t a
/-- So is the result's. -/
theorem index5 (t : Fin cfg0.N) (a : Fin 2) : win0_5.index t a = (![0, t.val] : Fin 2 → ℕ) a := index1 t a

/-- The activations as the kernel's first host operation leaves them. -/
theorem entry_x (i : Fin 96) (R : Fin 15360) :
    V m c main_v0 (ix2 i R) = m ((c : Thread nD τ).loc main_arg0) (ix3 i (0 : Fin 1) R) := by
  entry_read
  refine shapeCast_apply _ _ _ _ ?_
  refine (Shape.rowMajor_val_three (d := ![96, 1, 15360]) (ix3 i (0 : Fin 1) R)).trans
    (Eq.trans ?_ (Shape.rowMajor_val_two (d := ![96, 15360]) (ix2 i R)).symm)
  show (i.val * 1 + 0) * 15360 + R.val = i.val * 15360 + R.val
  omega

/-- Column `j` of the block at point `t`, as a column of the array. -/
abbrev col (t : Fin cfg0.N) (j : Fin 256) : Fin 2816 := ⟨256 * t.val + j.val, by have := lt11 t; omega⟩

/-- The staged activations are the whole argument. -/
theorem blk0 (t : Fin cfg0.N) (i : Fin 96) (R : Fin 15360) :
    iblk m c 0 t (ix2 i R) = m ((c : Thread nD τ).loc main_arg0) (ix3 i (0 : Fin 1) R) := by
  rw [← entry_x m c]
  unfold iblk
  refine congrArg (V m c main_v0) (funext fun a => Fin.ext ?_)
  exact Window.rect_emb_val_of_index_zero win0_0 t a (index0 t a) (ix2 i R)

/-- The staged gate weights are the block's columns of the argument. -/
theorem blk1 (t : Fin cfg0.N) (r : Fin 7680) (j : Fin 256) :
    iblk m c 1 t (ix2 r j) = m ((c : Thread nD τ).loc main_arg1) (ix2 r (col t j)) := by
  rw [← V_main_arg1 m c]
  unfold iblk
  refine congrArg (V m c main_arg1) (funext fun a => Fin.ext ?_)
  refine (Window.rect_emb_val win0_1 t (ix2 r j) a).trans ?_
  rw [index1]
  match a with
  | ⟨0, _⟩ => show 0 * 7680 + r.val = r.val; omega
  | ⟨1, _⟩ => show t.val * 256 + j.val = 256 * t.val + j.val; omega

/-- The staged gate scales are the block's columns of the argument. -/
theorem blk2 (t : Fin cfg0.N) (r : Fin 120) (j : Fin 256) :
    iblk m c 2 t (ix2 r j) = m ((c : Thread nD τ).loc main_arg2) (ix2 r (col t j)) := by
  rw [← V_main_arg2 m c]
  unfold iblk
  refine congrArg (V m c main_arg2) (funext fun a => Fin.ext ?_)
  refine (Window.rect_emb_val win0_2 t (ix2 r j) a).trans ?_
  rw [index2]
  match a with
  | ⟨0, _⟩ => show 0 * 120 + r.val = r.val; omega
  | ⟨1, _⟩ => show t.val * 256 + j.val = 256 * t.val + j.val; omega

/-- The staged up weights are the block's columns of the argument. -/
theorem blk3 (t : Fin cfg0.N) (r : Fin 7680) (j : Fin 256) :
    iblk m c 3 t (ix2 r j) = m ((c : Thread nD τ).loc main_arg3) (ix2 r (col t j)) := by
  rw [← V_main_arg3 m c]
  unfold iblk
  refine congrArg (V m c main_arg3) (funext fun a => Fin.ext ?_)
  refine (Window.rect_emb_val win0_3 t (ix2 r j) a).trans ?_
  rw [index3]
  match a with
  | ⟨0, _⟩ => show 0 * 7680 + r.val = r.val; omega
  | ⟨1, _⟩ => show t.val * 256 + j.val = 256 * t.val + j.val; omega

/-- The staged up scales are the block's columns of the argument. -/
theorem blk4 (t : Fin cfg0.N) (r : Fin 120) (j : Fin 256) :
    iblk m c 4 t (ix2 r j) = m ((c : Thread nD τ).loc main_arg4) (ix2 r (col t j)) := by
  rw [← V_main_arg4 m c]
  unfold iblk
  refine congrArg (V m c main_arg4) (funext fun a => Fin.ext ?_)
  refine (Window.rect_emb_val win0_4 t (ix2 r j) a).trans ?_
  rw [index4]
  match a with
  | ⟨0, _⟩ => show 0 * 120 + r.val = r.val; omega
  | ⟨1, _⟩ => show t.val * 256 + j.val = 256 * t.val + j.val; omega

/-- The result the claim states: `gated` of the two projections of the arguments. -/
def result : Buf (Elt Ideal) ((c : Thread nD τ).loc main_v1) := fun ic =>
  gated (proj (m ((c : Thread nD τ).loc main_arg0)) (m ((c : Thread nD τ).loc main_arg1))
      (m ((c : Thread nD τ).loc main_arg2)) (ic 0) (ic 1))
    (proj (m ((c : Thread nD τ).loc main_arg0)) (m ((c : Thread nD τ).loc main_arg3))
      (m ((c : Thread nD τ).loc main_arg4)) (ic 0) (ic 1))

/-- The gate accumulator after the last trip at point `t` is the gate projection at the block's column. -/
theorem acc_gate (t : Fin cfg0.N) (i : Fin 96) (j : Fin 256) :
    Fold.part (iblk m c 0 t) (iblk m c 1 t) (iblk m c 2 t) i j 15 le_rfl
      = proj (m ((c : Thread nD τ).loc main_arg0)) (m ((c : Thread nD τ).loc main_arg1))
          (m ((c : Thread nD τ).loc main_arg2)) i (col t j) := by
  rw [Fold.part_all]
  refine Finset.sum_congr rfl fun r _ => Finset.sum_congr rfl fun b _ => ?_
  rw [blk0, blk1, blk2]
  rfl

/-- The up accumulator after the last trip at point `t` is the up projection at the block's column. -/
theorem acc_up (t : Fin cfg0.N) (i : Fin 96) (j : Fin 256) :
    Fold.part (iblk m c 0 t) (iblk m c 3 t) (iblk m c 4 t) i j 15 le_rfl
      = proj (m ((c : Thread nD τ).loc main_arg0)) (m ((c : Thread nD τ).loc main_arg3))
          (m ((c : Thread nD τ).loc main_arg4)) i (col t j) := by
  rw [Fold.part_all]
  refine Finset.sum_congr rfl fun r _ => Finset.sum_congr rfl fun b _ => ?_
  rw [blk0, blk3, blk4]
  rfl

/-- What point `t` leaves in its output block. -/
theorem block (t : Fin cfg0.N) (i : Fin 96) (j : Fin 256) :
    outsAt0 m c t (ix2 i j) = result m c (ix2 i (col t j)) := by
  unfold outsAt0
  rw [Trip.out]
  have h := Fold.state_apply (iblk m c 0 t) (iblk m c 1 t) (iblk m c 2 t) (iblk m c 3 t) (iblk m c 4 t) c (grid0.coords t)
    (ms0_0 t) (hs0_0 t) (ms0_1 t) (hs0_1 t) (ms0_2 t) (hs0_2 t) (ms0_3 t) (hs0_3 t) (ms0_4 t) (hs0_4 t) (ms0_5 t) (hs0_5 t)
    i j 15 le_rfl
  rw [h.1, h.2, acc_gate, acc_up]
  rfl

/-- What point `t` writes back is its block of the result. -/
theorem flushed (t : Fin cfg0.N) :
    (dats m 0 c).flushed 5 t = ((cfg0.win 5).blk t).view.read (Elt Ideal) (result m c) := by
  rw [Cert.KernelIdeal.Value.flushed5]
  funext y
  obtain ⟨i, j, rfl⟩ : ∃ (i : Fin 96) (j : Fin 256), y = ix2 i j := ⟨y 0, y 1, eq_ix2 y⟩
  refine Eq.trans (b := outsAt0 m c t (ix2 i j)) rfl ((block m c t i j).trans ?_)
  refine congrArg (result m c) (funext fun a => Fin.ext ?_)
  refine Eq.symm ((Window.rect_emb_val win0_5 t (ix2 i j) a).trans ?_)
  rw [index5]
  match a with
  | ⟨0, _⟩ => show 0 * 96 + i.val = i.val; omega
  | ⟨1, _⟩ => show t.val * 256 + j.val = 256 * t.val + j.val; omega

/-- The kernel's result array after the run. -/
theorem final : (dats m 0 c).arrAt 5 cfg0.N = result m c :=
  (dats m 0 c).arrAt_eq_of_cover 5 (result m c) (fun t _ => flushed m c t) fun ic => by
    have h0 : (ic 0 : ℕ) < 96 := (ic 0).isLt
    have h1 : (ic 1 : ℕ) < 2816 := (ic 1).isLt
    let t : Fin cfg0.N := ⟨(ic 1 : ℕ) / 256, by rw [show cfg0.N = 11 from N_0]; omega⟩
    refine ⟨t, flush0_5 t, ?_⟩
    show ic ∈ ((View.whole main_v1).slice (win0_5.rect t)).set
    rw [View.set_slice_whole, Rect.mem_set_unit]
    intro a
    show win0_5.index t a * S96x256.size a ≤ (ic a : ℕ) ∧ (ic a : ℕ) < win0_5.index t a * S96x256.size a + S96x256.size a
    rw [index5]
    match a with
    | ⟨0, _⟩ => show 0 * 96 ≤ (ic 0 : ℕ) ∧ (ic 0 : ℕ) < 0 * 96 + 96; omega
    | ⟨1, _⟩ =>
      show (ic 1 : ℕ) / 256 * 256 ≤ (ic 1 : ℕ) ∧ (ic 1 : ℕ) < (ic 1 : ℕ) / 256 * 256 + 256
      omega

end Cert.Proof.Kernel

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Spec
public import proofs.«01_k».proof.Proof.Byte
public import proofs.«01_k».proof.Proof.Ref
public import proofs.«01_k».proof.Proof.Tile
public import proofs.«01_k».proof.Proof.Trip
public import proofs.«01_k».proof.Proof.Fold
public import proofs.«01_k».proof.Proof.Kernel
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- The reference runs, leaves its arguments as they were, and leaves every semaphore at zero. -/
theorem reference_frame : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run (F := Ideal) m g)

/-- From memories that agree on the arguments, kernel and reference end with the same result: at token `i`, column `c`,
`gated` of the two projections. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Kernel.result m c, ?_, ?_⟩
  · exact (θ_run _ _ _).mono (fun r h c => ⟨(h c).1.trans (Kernel.final m c), (h c).2⟩)
      (Cert.KernelIdeal.Value.run_blocks (F := Ideal) m g)
  · refine (θ_run _ _ _).mono (fun r h c => ⟨(h c).1.trans ?_, (h c).2⟩)
      (Cert.ReferenceIdeal.Value.run (F := Ideal) m' g')
    obtain ⟨e0, e1, e2, e3, e4⟩ := hargs c
    refine (Cert.ReferenceIdeal.Read.val_main_v38_eq (F := Ideal) _ _ _ _ _).trans ?_
    rw [e0, e1, e2, e3, e4]
    funext ic
    obtain ⟨i, j, rfl⟩ : ∃ (i : Fin 96) (j : Fin 2816), ic = ix2 i j := ⟨ic 0, ic 1, eq_ix2 ic⟩
    exact Ref.result _ _ _ _ _ i j

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
